-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x1x8192 : Shape := ⟨3, ![16, 1, 8192]⟩
abbrev S16x1x16x64 : Shape := ⟨4, ![16, 1, 16, 64]⟩
abbrev S16x16384x512 : Shape := ⟨3, ![16, 16384, 512]⟩
abbrev S16x16384 : Shape := ⟨2, ![16, 16384]⟩
abbrev S16x16384x64 : Shape := ⟨3, ![16, 16384, 64]⟩
abbrev S16x16x512 : Shape := ⟨3, ![16, 16, 512]⟩
abbrev S16x16x64 : Shape := ⟨3, ![16, 16, 64]⟩
abbrev S16x64x16384 : Shape := ⟨3, ![16, 64, 16384]⟩
abbrev S1x16x512 : Shape := ⟨3, ![1, 16, 512]⟩
abbrev S1x16x64 : Shape := ⟨3, ![1, 16, 64]⟩
abbrev S1x16384x512 : Shape := ⟨3, ![1, 16384, 512]⟩
abbrev S1x64x16384 : Shape := ⟨3, ![1, 64, 16384]⟩
abbrev S16x512 : Shape := ⟨2, ![16, 512]⟩
abbrev S16x64 : Shape := ⟨2, ![16, 64]⟩
abbrev S16x1 : Shape := ⟨2, ![16, 1]⟩
abbrev S1x2048x512 : Shape := ⟨3, ![1, 2048, 512]⟩
abbrev S2048x512 : Shape := ⟨2, ![2048, 512]⟩
abbrev S16x2048 : Shape := ⟨2, ![16, 2048]⟩
abbrev S1x64x2048 : Shape := ⟨3, ![1, 64, 2048]⟩
abbrev S64x2048 : Shape := ⟨2, ![64, 2048]⟩
abbrev S1x2048 : Shape := ⟨2, ![1, 2048]⟩
abbrev S16 : Shape := ⟨1, ![16]⟩

abbrev nBuf : Space → Nat
  | .hbm => 9
  | .vmem => 11
  | .smem => 0
  | _ => 0

abbrev bufTy : (tb : Table) → Fin (tcTables nBuf tb) → BufTy
  | .hbm, ⟨0, _⟩ => ⟨S16x1x8192, .bf16⟩
  | .hbm, ⟨1, _⟩ => ⟨S16x1x16x64, .bf16⟩
  | .hbm, ⟨2, _⟩ => ⟨S16x16384x512, .fp8e4m3⟩
  | .hbm, ⟨3, _⟩ => ⟨S16x16384, .f32⟩
  | .hbm, ⟨4, _⟩ => ⟨S16x16384x64, .bf16⟩
  | .hbm, ⟨5, _⟩ => ⟨S16x16x512, .bf16⟩
  | .hbm, ⟨6, _⟩ => ⟨S16x16x64, .bf16⟩
  | .hbm, ⟨7, _⟩ => ⟨S16x64x16384, .bf16⟩
  | .hbm, ⟨8, _⟩ => ⟨S16x16x512, .bf16⟩
  | .local _ .vmem, ⟨0, _⟩ => ⟨S1x16x512, .bf16⟩
  | .local _ .vmem, ⟨1, _⟩ => ⟨S1x16x512, .bf16⟩
  | .local _ .vmem, ⟨2, _⟩ => ⟨S1x16x64, .bf16⟩
  | .local _ .vmem, ⟨3, _⟩ => ⟨S1x16x64, .bf16⟩
  | .local _ .vmem, ⟨4, _⟩ => ⟨S1x16384x512, .fp8e4m3⟩
  | .local _ .vmem, ⟨5, _⟩ => ⟨S1x16384x512, .fp8e4m3⟩
  | .local _ .vmem, ⟨6, _⟩ => ⟨S16x16384, .f32⟩
  | .local _ .vmem, ⟨7, _⟩ => ⟨S1x64x16384, .bf16⟩
  | .local _ .vmem, ⟨8, _⟩ => ⟨S1x64x16384, .bf16⟩
  | .local _ .vmem, ⟨9, _⟩ => ⟨S1x16x512, .bf16⟩
  | .local _ .vmem, ⟨10, _⟩ => ⟨S1x16x512, .bf16⟩
  | _, _ => ⟨S16x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let arg0 : BitVec 32 := BitVec.ofNat 32 (i 0).val
  let v13 : Index := Scalar.indexCast arg0
  let c0_15 : Index := 0#32
  ![v13.toNat, 0]
def k0_off2 (i : grid0.Coords) : Fin 2 → Nat :=
  let arg0 : BitVec 32 := BitVec.ofNat 32 (i 0).val
  let v26 : Index := Scalar.indexCast arg0
  let c2048_24 : Index := 2048#32
  ![v26.toNat, 2048]
def k0_off3 (i : grid0.Coords) : Fin 2 → Nat :=
  let arg0 : BitVec 32 := BitVec.ofNat 32 (i 0).val
  let v62 : Index := Scalar.indexCast arg0
  let c4096_40 : Index := 4096#32
  ![v62.toNat, 4096]
def k0_off4 (i : grid0.Coords) : Fin 2 → Nat :=
  let arg0 : BitVec 32 := BitVec.ofNat 32 (i 0).val
  let v98 : Index := Scalar.indexCast arg0
  let c6144_56 : Index := 6144#32
  ![v98.toNat, 6144]
def k0_off5 (i : grid0.Coords) : Fin 2 → Nat :=
  let arg0 : BitVec 32 := BitVec.ofNat 32 (i 0).val
  let v134 : Index := Scalar.indexCast arg0
  let c8192_72 : Index := 8192#32
  ![v134.toNat, 8192]
def k0_off6 (i : grid0.Coords) : Fin 2 → Nat :=
  let arg0 : BitVec 32 := BitVec.ofNat 32 (i 0).val
  let v170 : Index := Scalar.indexCast arg0
  let c10240_88 : Index := 10240#32
  ![v170.toNat, 10240]
def k0_off7 (i : grid0.Coords) : Fin 2 → Nat :=
  let arg0 : BitVec 32 := BitVec.ofNat 32 (i 0).val
  let v206 : Index := Scalar.indexCast arg0
  let c12288_104 : Index := 12288#32
  ![v206.toNat, 12288]
def k0_off8 (i : grid0.Coords) : Fin 2 → Nat :=
  let arg0 : BitVec 32 := BitVec.ofNat 32 (i 0).val
  let v242 : Index := Scalar.indexCast arg0
  let c14336_120 : Index := 14336#32
  ![v242.toNat, 14336]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16384x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x16384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x64x16384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S16x1x8192 : Shape := ⟨3, ![16, 1, 8192]⟩
abbrev S16x1x16x64 : Shape := ⟨4, ![16, 1, 16, 64]⟩
abbrev S16x16384x512 : Shape := ⟨3, ![16, 16384, 512]⟩
abbrev S16x16384 : Shape := ⟨2, ![16, 16384]⟩
abbrev S16x16384x64 : Shape := ⟨3, ![16, 16384, 64]⟩
abbrev S16x16x512 : Shape := ⟨3, ![16, 16, 512]⟩
abbrev S16x16x64 : Shape := ⟨3, ![16, 16, 64]⟩
abbrev S16x1x16384 : Shape := ⟨3, ![16, 1, 16384]⟩
abbrev S16x16x16384 : Shape := ⟨3, ![16, 16, 16384]⟩
abbrev S16x16 : Shape := ⟨2, ![16, 16]⟩
abbrev S16x16x1 : Shape := ⟨3, ![16, 16, 1]⟩

abbrev nBuf : Space → Nat
  | .hbm => 8
  | .vmem => 6
  | .smem => 0
  | _ => 0

abbrev bufTy : (tb : Table) → Fin (tcTables nBuf tb) → BufTy
  | .hbm, ⟨0, _⟩ => ⟨S16x1x8192, .bf16⟩
  | .hbm, ⟨1, _⟩ => ⟨S16x1x16x64, .bf16⟩
  | .hbm, ⟨2, _⟩ => ⟨S16x16384x512, .fp8e4m3⟩
  | .hbm, ⟨3, _⟩ => ⟨S16x16384, .f32⟩
  | .hbm, ⟨4, _⟩ => ⟨S16x16384x64, .bf16⟩
  | .hbm, ⟨5, _⟩ => ⟨S16x16x512, .bf16⟩
  | .hbm, ⟨6, _⟩ => ⟨S16x16x64, .bf16⟩
  | .hbm, ⟨7, _⟩ => ⟨S16x16x512, .bf16⟩
  | .local _ .vmem, ⟨0, _⟩ => ⟨S16x16x512, .bf16⟩
  | .local _ .vmem, ⟨1, _⟩ => ⟨S16x16x64, .bf16⟩
  | .local _ .vmem, ⟨2, _⟩ => ⟨S16x16384x512, .fp8e4m3⟩
  | .local _ .vmem, ⟨3, _⟩ => ⟨S16x16384, .f32⟩
  | .local _ .vmem, ⟨4, _⟩ => ⟨S16x16384x64, .bf16⟩
  | .local _ .vmem, ⟨5, _⟩ => ⟨S16x16x512, .bf16⟩
  | _, _ => ⟨S16x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S16x16x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x16x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x16384x512 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x16384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x16384x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x16x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Body.lean ====
/-
  THE KERNEL'S BODY AS EIGHT STEPS OF ONE RECURRENCE, at any float values: what a grid point writes to its output block
  (`outs_eq`) is the start state taken through the eight chunks of 2048 tokens and divided out.
-/
module

public import proofs.«01_k».proof.Proof.Gen.KernelIdeal.Value
public import Idealize.ShloMosaic.Lib.Pipeline.ValueKit.Point

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]

/-! ### The kernel's body as eight steps of one recurrence -/

/-- What the body carries from chunk to chunk: the running maximum, the running sum, the running weighted sum of codes. -/
abbrev State (F : FTy → Type) := FVec F S16x1 .f32 × FVec F S16x1 .f32 × FVec F S16x512 .f32

/-- What the body reads of one chunk: its codes, its rotary keys, its scales. -/
abbrev Chunk (F : FTy → Type) := Vec F S1x2048x512 .fp8e4m3 × Vec F S1x64x2048 .bf16 × Vec F S1x2048 .f32

/-- Before the first chunk: maximum `-∞`, both sums zero. -/
def start : State F := (k0_pay4, k0_pay5, k0_pay6)

/-- A chunk's scores, for both queries. -/
def scoresOf (q : Vec F S1x16x512 .bf16) (r : Vec F S1x16x64 .bf16) (k : Chunk F) : FVec F S16x2048 .f32 :=
  k0_pay7 q r k.1 k.2.1 k.2.2

/-- One chunk's step. -/
def step (q : Vec F S1x16x512 .bf16) (r : Vec F S1x16x64 .bf16) (k : Chunk F) (st : State F) : State F :=
  (k0_pay10 st.1 (scoresOf q r k), k0_pay13 st.1 st.2.1 (scoresOf q r k), k0_pay14 st.1 st.2.2 (scoresOf q r k) k.2.2 k.1)

/-- After the last chunk: the weighted sum over the sum, as the output block. -/
def finish (st : State F) : FVec F S1x16x512 .bf16 :=
  shapeCast S1x16x512 (truncf .bf16 (divf st.2.2 (broadcastTo S16x512 st.2.1 broadcasts_S16x1_S16x512)) bitsLt_bf16_f32) shapeCasts_S16x512_S1x16x512

/-- Chunk `o / 2048` of the input blocks, `o` its first token. -/
def chunkAt (i : grid0.Coords) (x2 : Vec F S1x16384x512 .fp8e4m3) (x3 : Vec F S16x16384 .f32) (x4 : Vec F S1x64x16384 .bf16) (o : ℕ)
    (h2 : ∀ a, (![0, o, 0] : Fin 3 → ℕ) a + S1x2048x512.size a ≤ S1x16384x512.size a)
    (h3 : ∀ a, (![(Scalar.indexCast (BitVec.ofNat 32 (i 0).val) : Index).toNat, o] : Fin 2 → ℕ) a + S1x2048.size a ≤ S16x16384.size a)
    (h4 : ∀ a, (![0, 0, o] : Fin 3 → ℕ) a + S1x64x2048.size a ≤ S1x64x16384.size a) : Chunk F :=
  (View.ld x2 (Rect.unit (s := S1x16384x512) ![0, o, 0] S1x2048x512.size h2),
   View.ld x4 (Rect.unit (s := S1x64x16384) ![0, 0, o] S1x64x2048.size h4),
   View.ld x3 (Rect.unit (s := S16x16384) ![(Scalar.indexCast (BitVec.ofNat 32 (i 0).val) : Index).toNat, o] S1x2048.size h3))

/-- The eight chunks in order, from the start to the output block. -/
def body (i : grid0.Coords) (x0 : Vec F S1x16x512 .bf16) (x1 : Vec F S1x16x64 .bf16) (x2 : Vec F S1x16384x512 .fp8e4m3)
    (x3 : Vec F S16x16384 .f32) (x4 : Vec F S1x64x16384 .bf16) : FVec F S1x16x512 .bf16 :=
  finish
    (step x0 x1 (chunkAt i x2 x3 x4 14336 inb_S1x16384x512_S1x2048x512_0_14336_0 (k0_off8_inb i) inb_S1x64x16384_S1x64x2048_0_0_14336)
    (step x0 x1 (chunkAt i x2 x3 x4 12288 inb_S1x16384x512_S1x2048x512_0_12288_0 (k0_off7_inb i) inb_S1x64x16384_S1x64x2048_0_0_12288)
    (step x0 x1 (chunkAt i x2 x3 x4 10240 inb_S1x16384x512_S1x2048x512_0_10240_0 (k0_off6_inb i) inb_S1x64x16384_S1x64x2048_0_0_10240)
    (step x0 x1 (chunkAt i x2 x3 x4 8192 inb_S1x16384x512_S1x2048x512_0_8192_0 (k0_off5_inb i) inb_S1x64x16384_S1x64x2048_0_0_8192)
    (step x0 x1 (chunkAt i x2 x3 x4 6144 inb_S1x16384x512_S1x2048x512_0_6144_0 (k0_off4_inb i) inb_S1x64x16384_S1x64x2048_0_0_6144)
    (step x0 x1 (chunkAt i x2 x3 x4 4096 inb_S1x16384x512_S1x2048x512_0_4096_0 (k0_off3_inb i) inb_S1x64x16384_S1x64x2048_0_0_4096)
    (step x0 x1 (chunkAt i x2 x3 x4 2048 inb_S1x16384x512_S1x2048x512_0_2048_0 (k0_off2_inb i) inb_S1x64x16384_S1x64x2048_0_0_2048)
    (step x0 x1 (chunkAt i x2 x3 x4 0 inb_S1x16384x512_S1x2048x512_0_0_0 (k0_off1_inb i) inb_S1x64x16384_S1x64x2048_0_0_0)
      start))))))))

variable (m : (ℓ : Loc nD τ sig) → Buf (Elt F) ℓ)

/-- The offsets of a load or store of a whole block. -/
theorem off_zero : (![0, 0, 0] : Fin 3 → ℕ) = fun _ => 0 := by funext a; fin_cases a <;> rfl

/-- **What the body leaves at grid point `t`: the eight steps over the point's input blocks.** -/
theorem outs_eq (c : Dev nD) (t : Fin cfg0.N) :
    outsAt0 m c t = body (grid0.coords t) (iblk m c 0 t) (iblk m c 1 t) (iblk m c 2 t) (iblk m c 3 t) (iblk m c 4 t) := by
  unfold outsAt0 out0_A_5
  rw [View.read_writes_eq_canon _ _ _ (cover0_A_5 c _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread]
  refine (View.canon_unit_zero off_zero _ _).trans ?_
  generalize iblk m c 0 t = x0
  generalize iblk m c 1 t = x1
  generalize iblk m c 2 t = x2
  generalize iblk m c 3 t = x3
  generalize iblk m c 4 t = x4
  refine (?_ : _ = body (grid0.coords t) (View.ld x0 (Rect.unit (s := S1x16x512) ![0, 0, 0] S1x16x512.size inb_S1x16x512_S1x16x512_0_0_0))
    (View.ld x1 (Rect.unit (s := S1x16x64) ![0, 0, 0] S1x16x64.size inb_S1x16x64_S1x16x64_0_0_0)) x2 x3 x4).trans ?_
  · rfl
  · rw [View.ld_unit_zero (S := S1x16x512) off_zero, View.ld_unit_zero (S := S1x16x64) off_zero]

end Cert.KernelIdeal.Value
-- ==== Proof.Softmax.lean ====
/-
  ONLINE SOFTMAX OVER THE EXTENDED REALS. A softmax whose tokens arrive chunk by chunk keeps a running maximum, and rescales
  what it has summed so far by `exp (old maximum - new maximum)` whenever the maximum grows. This module shows, for ALL
  extended-real scores and weights (infinite ones included), that the running sums are then the sums a softmax over all the
  tokens at once computes.
-/
module

public import Idealize.ShloMosaic.PureOps.Ideal
public import Idealize.ShloMosaic.Lib.Pointwise.Sums

@[expose] public section

noncomputable section

namespace Cert.Softmax

open Idealize.ShloMosaic
open scoped BigOperators

/-! ### The exponential of a difference -/

/-- The exponential of `-∞` is zero. -/
theorem exp_bot : Ideal.exp ⊥ = 0 := rfl
/-- The exponential of `+∞` is `+∞`. -/
theorem exp_top : Ideal.exp ⊤ = ⊤ := rfl
/-- The exponential of a real. -/
theorem exp_coe (r : ℝ) : Ideal.exp (r : EReal) = ((Real.exp r : ℝ) : EReal) := rfl

/-- The exponential of an extended real is never negative. -/
theorem exp_nonneg (x : EReal) : 0 ≤ Ideal.exp x := by
  induction x using EReal.rec with
  | bot => exact le_rfl
  | top => exact le_top
  | coe r => rw [exp_coe]; exact_mod_cast (Real.exp_pos r).le

/-- Below or at zero the exponential is finite. -/
theorem exp_ne_top {x : EReal} (h : x ≠ ⊤) : Ideal.exp x ≠ ⊤ := by
  induction x using EReal.rec with
  | bot => exact EReal.zero_ne_top
  | top => exact absurd rfl h
  | coe r => exact EReal.coe_ne_top _

/-- The difference of a smaller and a larger extended real is never `⊤`. -/
theorem sub_ne_top {a b : EReal} (h : a ≤ b) : a - b ≠ ⊤ := by
  induction a using EReal.rec with
  | bot => simp
  | top => obtain rfl := top_le_iff.mp h; simp
  | coe r =>
    induction b using EReal.rec with
    | bot => simp at h
    | top => simp
    | coe q => rw [← EReal.coe_sub]; exact EReal.coe_ne_top _

/-- Rescaling a term from the maximum `m` to a larger maximum `m'` is taking it at `m'` in the first place. -/
theorem exp_sub_mul_exp_sub {s m m' : EReal} (h : s ≤ m) (h' : m ≤ m') :
    Ideal.exp (s - m) * Ideal.exp (m - m') = Ideal.exp (s - m') := by
  induction s using EReal.rec with
  | bot => simp [exp_bot]
  | top => obtain rfl := top_le_iff.mp h; obtain rfl := top_le_iff.mp h'; simp [exp_bot]
  | coe r =>
    induction m using EReal.rec with
    | bot => simp at h
    | top => obtain rfl := top_le_iff.mp h'; simp [exp_bot]
    | coe q =>
      induction m' using EReal.rec with
      | bot => simp at h'
      | top => simp [exp_bot]
      | coe p =>
        rw [← EReal.coe_sub, ← EReal.coe_sub, ← EReal.coe_sub]
        rw [exp_coe, exp_coe, exp_coe, ← EReal.coe_mul, ← Real.exp_add, sub_add_sub_cancel]

/-- A finite nonnegative factor distributes over a sum of extended reals. -/
theorem sum_mul_of_nonneg {ι : Type*} (S : Finset ι) (f : ι → EReal) {x : EReal} (h0 : 0 ≤ x) (hx : x ≠ ⊤) :
    (∑ i ∈ S, f i) * x = ∑ i ∈ S, f i * x := by
  classical
  induction S using Finset.induction_on with
  | empty => simp
  | insert a S ha ih =>
    rw [Finset.sum_insert ha, Finset.sum_insert ha, ← ih]
    exact EReal.right_distrib_of_nonneg_of_ne_top h0 hx _ _

/-! ### The recurrence -/

variable {K : ℕ} (s w : ℕ → Fin K → EReal)

/-- The largest score of one chunk. -/
def chunkMax (v : Fin K → EReal) : EReal := Finset.univ.fold max ⊥ v

/-- The running maximum after `n` chunks. -/
def runMax : ℕ → EReal
  | 0 => ⊥
  | n + 1 => max (runMax n) (chunkMax (s n))

/-- The running weighted sum after `n` chunks: what was there, rescaled, plus the chunk's terms. -/
def runSum : ℕ → EReal
  | 0 => 0
  | n + 1 => runSum n * Ideal.exp (runMax s n - runMax s (n + 1)) + ∑ k, Ideal.exp (s n k - runMax s (n + 1)) * w n k

theorem le_chunkMax (v : Fin K → EReal) (k : Fin K) : v k ≤ chunkMax v :=
  (Finset.le_fold_max _).mpr (.inr ⟨k, Finset.mem_univ k, le_rfl⟩)

theorem runMax_le_succ (n : ℕ) : runMax s n ≤ runMax s (n + 1) := le_max_left _ _

/-- Every score of the chunks seen is at most the running maximum. -/
theorem le_runMax {n j : ℕ} (h : j < n) (k : Fin K) : s j k ≤ runMax s n := by
  induction n with
  | zero => omega
  | succ n ih =>
    rcases Nat.lt_succ_iff_lt_or_eq.mp h with h | rfl
    · exact (ih h).trans (runMax_le_succ s n)
    · exact (le_chunkMax (s j) k).trans (le_max_right _ _)

/-- **The running sum is the sum over all tokens seen, each taken at the maximum of all tokens seen.** -/
theorem runSum_eq (n : ℕ) :
    runSum s w n = ∑ j ∈ Finset.range n, ∑ k, Ideal.exp (s j k - runMax s n) * w j k := by
  induction n with
  | zero => simp [runSum]
  | succ n ih =>
    have h0 := exp_nonneg (runMax s n - runMax s (n + 1))
    have ht := exp_ne_top (sub_ne_top (runMax_le_succ s n))
    rw [runSum, ih, Finset.sum_range_succ, sum_mul_of_nonneg _ _ h0 ht]
    congr 1
    refine Finset.sum_congr rfl fun j hj => ?_
    rw [sum_mul_of_nonneg _ _ h0 ht]
    refine Finset.sum_congr rfl fun k _ => ?_
    rw [mul_right_comm, exp_sub_mul_exp_sub (le_runMax s (Finset.mem_range.mp hj) k) (runMax_le_succ s n)]

/-- The running maximum is the least upper bound of the scores seen. -/
theorem runMax_le {n : ℕ} {b : EReal} (h : ∀ j < n, ∀ k, s j k ≤ b) : runMax s n ≤ b := by
  induction n with
  | zero => exact bot_le
  | succ n ih =>
    refine max_le (ih fun j hj k => h j (by omega) k) ?_
    exact (Finset.fold_max_le _).mpr ⟨bot_le, fun k _ => h n (by omega) k⟩

/-! ### Chunks of one long axis -/

variable {J N : ℕ}

/-- Token `k` of chunk `j`. -/
def tok (hN : J * K = N) (j : Fin J) (k : Fin K) : Fin N := ⟨j.val * K + k.val, by
  have hj := j.isLt; have ht := k.isLt; rw [← hN]
  calc j.val * K + k.val < j.val * K + K := by omega
    _ = (j.val + 1) * K := by rw [Nat.add_mul, Nat.one_mul]
    _ ≤ J * K := Nat.mul_le_mul_right _ (by omega)⟩

variable (hN : J * K = N)

/-- Every token is some chunk's. -/
theorem exists_tok (i : Fin N) : ∃ j k, tok hN j k = i := by
  have hi := i.isLt
  subst hN
  have hK : 0 < K := Nat.pos_of_ne_zero fun h => by subst h; simp at hi
  refine ⟨⟨i.val / K, (Nat.div_lt_iff_lt_mul hK).mpr hi⟩, ⟨i.val % K, Nat.mod_lt _ hK⟩, Fin.ext ?_⟩
  exact Nat.div_add_mod' i.val K

variable (S W : Fin N → EReal)

/-- After all the chunks the running maximum is the maximum over the whole axis. -/
theorem runMax_all (hs : ∀ (j : Fin J) k, s j k = S (tok hN j k)) : runMax s J = Finset.univ.fold max ⊥ S := by
  refine le_antisymm (runMax_le s fun j hj k => ?_) ((Finset.fold_max_le _).mpr ⟨bot_le, fun i _ => ?_⟩)
  · rw [hs ⟨j, hj⟩ k]
    exact (Finset.le_fold_max _).mpr (.inr ⟨_, Finset.mem_univ _, le_rfl⟩)
  · obtain ⟨j, k, rfl⟩ := exists_tok hN i
    rw [← hs j k]
    exact le_runMax s j.isLt k

/-- **After all the chunks the running sum is the sum over the whole axis at the maximum of the whole axis.** -/
theorem runSum_all (hs : ∀ (j : Fin J) k, s j k = S (tok hN j k)) (hw : ∀ (j : Fin J) k, w j k = W (tok hN j k)) :
    runSum s w J = ∑ i, Ideal.exp (S i - Finset.univ.fold max ⊥ S) * W i := by
  rw [runSum_eq, runMax_all s hN S hs, Fin.sum_univ_tiles J K hN, Finset.sum_range]
  refine Finset.sum_congr rfl fun j _ => Finset.sum_congr rfl fun k _ => ?_
  rw [hs j k, hw j k]
  rfl

end Cert.Softmax

end
-- ==== Proof.Spec.lean ====
/-
  THE ATTENTION BOTH PROGRAMS COMPUTE, over the extended reals: sixteen requests, one latent query per head and request
  against the request's cached tokens. A token's score is the product of the query with its codes, scaled by the token's
  scale, plus the product of the rotary parts, times one constant; the output is the scaled codes averaged with the
  softmax of the scores.
-/
module

public import Idealize.ShloMosaic.PureOps.Ideal
public import Idealize.ShloMosaic.Lib.Pointwise

@[expose] public section

noncomputable section

namespace Cert.Spec

open Idealize.ShloMosaic
open scoped BigOperators

/-- The constant every score is multiplied by. -/
def smScale : EReal := Ideal.ofBits .f32 0x3D93CD3A#32

/-- The minus infinity a maximum starts from. -/
theorem ofBits_neg_inf : Ideal.ofBits .f32 0xFF800000#32 = ⊥ := by
  have h : (BitVec.extractLsb' (8 + 23) 1 (0xFF800000#32 : BitVec 32) == 1#1) = true := by decide
  simp [Ideal.ofBits, Ideal.ieee, h]

variable (x : (⟨3, ![16, 16, 512]⟩ : Shape).Idx → EReal) (q : (⟨3, ![16, 16, 64]⟩ : Shape).Idx → EReal)
  (c : (⟨3, ![16, 16384, 512]⟩ : Shape).Idx → EReal) (s : (⟨2, ![16, 16384]⟩ : Shape).Idx → EReal)
  (k : (⟨3, ![16, 16384, 64]⟩ : Shape).Idx → EReal)

/-- The score of token `i` for head `h` of request `b`. -/
def score (b : Fin 16) (h : Fin 16) (i : Fin 16384) : EReal :=
  ((∑ d : Fin 512, x (ix3 b h d) * c (ix3 b i d)) * s (ix2 b i) + ∑ r : Fin 64, q (ix3 b h r) * k (ix3 b i r)) * smScale

/-- Token `i`'s weight for head `h` of request `b`: the exponential of its score less the largest score. -/
def weight (b : Fin 16) (h : Fin 16) (i : Fin 16384) : EReal :=
  Ideal.exp (score x q c s k b h i - Finset.univ.fold max ⊥ (score x q c s k b h))

/-- The output: the scaled codes, averaged with the weights. -/
def attend (j : (⟨3, ![16, 16, 512]⟩ : Shape).Idx) : EReal :=
  Ideal.div (∑ i, weight x q c s k (j 0) (j 1) i * (s (ix2 (j 0) i) * c (ix3 (j 0) i (j 2))))
    (∑ i, weight x q c s k (j 0) (j 1) i)

end Cert.Spec

end
-- ==== Proof.Steps.lean ====
/-
  ONE STEP OF THE RECURRENCE, AND THE WHOLE BODY, AT AN INDEX: a step takes the running maximum, sum and weighted sum of the
  chunks before (`Holds`) to those of one chunk more (`Holds.step`); eight steps and the final division give the attention
  of the request's rows (`body_apply`).
-/
module

public import proofs.«01_k».proof.Proof.Body
public import proofs.«01_k».proof.Proof.Softmax
public import proofs.«01_k».proof.Proof.Spec
public import Idealize.ShloMosaic.Lib.Pointwise

@[expose] public section

set_option maxRecDepth 16384

noncomputable section

namespace Cert.KernelIdeal.Value

open Cert.KernelIdeal Cert.KernelIdeal.Gen Idealize.ShloMosaic Idealize.ShloMosaic.TcCoe Idealize.SL.Sem
open scoped BigOperators

/-! ### One step at an index -/

/-- A chunk's score of token `k` for head `h`. -/
theorem scoresOf_apply (q : FVec Ideal S1x16x512 .bf16) (r : FVec Ideal S1x16x64 .bf16) (ch : Chunk Ideal) (h : Fin 16) (k : Fin 2048) :
    scoresOf (F := Ideal) q r ch (ix2 h k)
      = ((∑ d : Fin 512, q (ix3 0 h d) * ch.1 (ix3 0 k d)) * ch.2.2 (ix2 0 k) + ∑ e : Fin 64, r (ix3 0 h e) * ch.2.1 (ix3 0 e k)) * Spec.smScale := by
  unfold scoresOf Spec.smScale
  unfold_payloads
  pointwise [dot_S16x512_S2048x512_S16x2048_1_1_0_0_n_n, dot_S16x64_S64x2048_S16x2048_1_0_0_1_n_n]

/-- The next maximum of head `h`. -/
theorem pay10_apply (mx : FVec Ideal S16x1 .f32) (s : FVec Ideal S16x2048 .f32) (h : Fin 16) :
    k0_pay10 (F := Ideal) mx s (ix2 h 0) = max (mx (ix2 h 0)) (Softmax.chunkMax fun k => s (ix2 h k)) := by
  unfold k0_pay10 Softmax.chunkMax
  pointwise [Spec.ofBits_neg_inf]

/-- The next sum of head `h`. -/
theorem pay13_apply (mx l : FVec Ideal S16x1 .f32) (s : FVec Ideal S16x2048 .f32) (h : Fin 16) :
    k0_pay13 (F := Ideal) mx l s (ix2 h 0)
      = l (ix2 h 0) * Ideal.exp (mx (ix2 h 0) - k0_pay10 (F := Ideal) mx s (ix2 h 0))
        + ∑ k : Fin 2048, Ideal.exp (s (ix2 h k) - k0_pay10 (F := Ideal) mx s (ix2 h 0)) := by
  unfold k0_pay13 k0_pay11 k0_pay12
  pointwise

/-- The next weighted sum of head `h` and latent coordinate `d`. -/
theorem pay14_apply (mx : FVec Ideal S16x1 .f32) (a : FVec Ideal S16x512 .f32) (s : FVec Ideal S16x2048 .f32)
    (sc : FVec Ideal S1x2048 .f32) (c : FVec Ideal S1x2048x512 .fp8e4m3) (h : Fin 16) (d : Fin 512) :
    k0_pay14 (F := Ideal) mx a s sc c (ix2 h d)
      = a (ix2 h d) * Ideal.exp (mx (ix2 h 0) - k0_pay10 (F := Ideal) mx s (ix2 h 0))
        + ∑ k : Fin 2048, Ideal.exp (s (ix2 h k) - k0_pay10 (F := Ideal) mx s (ix2 h 0)) * sc (ix2 0 k) * c (ix3 0 k d) := by
  unfold k0_pay14 k0_pay11 k0_pay12
  pointwise [dot_S16x2048_S2048x512_S16x512_1_0_0_1_n_n]

/-- The output block: the weighted sum over the sum. -/
theorem finish_apply (st : State Ideal) (h : Fin 16) (d : Fin 512) :
    finish (F := Ideal) st (ix3 0 h d) = Ideal.div (st.2.2 (ix2 h d)) (st.2.1 (ix2 h 0)) := by
  unfold finish
  pointwise

/-! ### What the state is after some chunks -/

/-- After `n` chunks with scores `s h` and weights `w d` the state holds, head by head, the running maximum, the running
    sum and the running weighted sums (Softmax.lean). -/
structure Holds (s : Fin 16 → ℕ → Fin 2048 → EReal) (w : Fin 512 → ℕ → Fin 2048 → EReal) (n : ℕ) (st : State Ideal) : Prop where
  max : ∀ h, st.1 (ix2 h 0) = Softmax.runMax (s h) n
  sum : ∀ h, st.2.1 (ix2 h 0) = Softmax.runSum (s h) (fun _ _ => 1) n
  acc : ∀ h d, st.2.2 (ix2 h d) = Softmax.runSum (s h) (w d) n

variable {s : Fin 16 → ℕ → Fin 2048 → EReal} {w : Fin 512 → ℕ → Fin 2048 → EReal}

/-- Before the first chunk. -/
theorem holds_start : Holds s w 0 (start (F := Ideal)) where
  max h := by
    show k0_pay4 (F := Ideal) (ix2 h 0) = ⊥
    unfold k0_pay4
    pointwise [Spec.ofBits_neg_inf]
  sum h := by
    show k0_pay5 (F := Ideal) (ix2 h 0) = 0
    unfold k0_pay5
    pointwise
  acc h d := by
    show k0_pay6 (F := Ideal) (ix2 h d) = 0
    unfold k0_pay6
    pointwise

/-- One chunk further. -/
theorem Holds.step {n : ℕ} {st : State Ideal} (H : Holds s w n st) (q : FVec Ideal S1x16x512 .bf16) (r : FVec Ideal S1x16x64 .bf16)
    (ch : Chunk Ideal) (hs : ∀ h k, scoresOf (F := Ideal) q r ch (ix2 h k) = s h n k)
    (hw : ∀ d k, ch.2.2 (ix2 0 k) * ch.1 (ix3 0 k d) = w d n k) :
    Holds s w (n + 1) (Value.step q r ch st) := by
  have e : ∀ h, k0_pay10 (F := Ideal) st.1 (scoresOf q r ch) (ix2 h 0) = Softmax.runMax (s h) (n + 1) := fun h => by
    rw [pay10_apply, H.max h]
    simp only [hs]
    rfl
  refine ⟨e, fun h => ?_, fun h d => ?_⟩
  · show k0_pay13 (F := Ideal) st.1 st.2.1 (scoresOf q r ch) (ix2 h 0) = _
    rw [pay13_apply, e h, H.max h, H.sum h]
    simp only [hs, Softmax.runSum, mul_one]
  · show k0_pay14 (F := Ideal) st.1 st.2.2 (scoresOf q r ch) ch.2.2 ch.1 (ix2 h d) = _
    rw [pay14_apply, e h, H.max h, H.acc h d]
    simp only [hs, Softmax.runSum, mul_assoc, hw]

/-! ### One chunk of the input blocks, at an index -/

/-- The codes of token `k` of the chunk that starts at token `o`. -/
theorem chunkAt_codes (i : grid0.Coords) (x2 : FVec Ideal S1x16384x512 .fp8e4m3) (x3 : FVec Ideal S16x16384 .f32)
    (x4 : FVec Ideal S1x64x16384 .bf16) (o : ℕ) (h2 h3 h4) (k : Fin 2048) (d : Fin 512) (z : Fin 16384) (hz : z.val = o + k.val) :
    (chunkAt (F := Ideal) i x2 x3 x4 o h2 h3 h4).1 (ix3 0 k d) = x2 (ix3 0 z d) := by
  unfold chunkAt
  pointwise
  exact congrArg (fun z => x2 (ix3 0 z d)) (Fin.ext hz.symm)

/-- The rotary key of token `k` of the chunk that starts at token `o`. -/
theorem chunkAt_keys (i : grid0.Coords) (x2 : FVec Ideal S1x16384x512 .fp8e4m3) (x3 : FVec Ideal S16x16384 .f32)
    (x4 : FVec Ideal S1x64x16384 .bf16) (o : ℕ) (h2 h3 h4) (k : Fin 2048) (e : Fin 64) (z : Fin 16384) (hz : z.val = o + k.val) :
    (chunkAt (F := Ideal) i x2 x3 x4 o h2 h3 h4).2.1 (ix3 0 e k) = x4 (ix3 0 e z) := by
  unfold chunkAt
  pointwise
  exact congrArg (fun z => x4 (ix3 0 e z)) (Fin.ext hz.symm)

/-- The row of the scales a request reads is its own. -/
theorem row_eq : ∀ b : Fin 16, (Scalar.indexCast (BitVec.ofNat 32 b.val) : Index).toNat = b.val := by decide

/-- The scale of token `k` of the chunk that starts at token `o`. -/
theorem chunkAt_scales (i : grid0.Coords) (x2 : FVec Ideal S1x16384x512 .fp8e4m3) (x3 : FVec Ideal S16x16384 .f32)
    (x4 : FVec Ideal S1x64x16384 .bf16) (o : ℕ) (h2 h3 h4) (k : Fin 2048) (b : Fin 16) (hb : b.val = (i 0).val)
    (z : Fin 16384) (hz : z.val = o + k.val) :
    (chunkAt (F := Ideal) i x2 x3 x4 o h2 h3 h4).2.2 (ix2 0 k) = x3 (ix2 b z) := by
  unfold chunkAt
  pointwise
  exact congrArg₂ (fun b z => x3 (ix2 b z)) (Fin.ext (by rw [hb]; exact row_eq (i 0))) (Fin.ext hz.symm)

/-! ### The whole body at an index -/

/-- Eight chunks of 2048 tokens are the 16384 tokens. -/
theorem tokens : 8 * 2048 = 16384 := rfl

/-- A function of the tokens, chunk by chunk. -/
def byChunk (f : Fin 16384 → EReal) (n : ℕ) (k : Fin 2048) : EReal :=
  if hn : n < 8 then f (Softmax.tok tokens ⟨n, hn⟩ k) else 0

/-- Chunk `n`'s token `k` is token `2048 n + k`. -/
theorem byChunk_eq (f : Fin 16384 → EReal) (n : Fin 8) (k : Fin 2048) : byChunk f n k = f (Softmax.tok tokens n k) :=
  dif_pos n.isLt

section Body

variable (X : FVec Ideal S16x16x512 .bf16) (Q : FVec Ideal S16x16x64 .bf16) (C : FVec Ideal S16x16384x512 .fp8e4m3)
  (S : FVec Ideal S16x16384 .f32) (K : FVec Ideal S16x16384x64 .bf16)

/-- The scores of request `b`, by head and chunk. -/
def sc (b : Fin 16) (h : Fin 16) : ℕ → Fin 2048 → EReal := byChunk (Spec.score X Q C S K b h)

/-- The scaled codes of request `b`, by latent coordinate and chunk. -/
def wt (b : Fin 16) (d : Fin 512) : ℕ → Fin 2048 → EReal := byChunk fun z => S (ix2 b z) * C (ix3 b z d)

variable {X Q C S K}
variable {i : grid0.Coords} {b : Fin 16} {x0 : FVec Ideal S1x16x512 .bf16} {x1 : FVec Ideal S1x16x64 .bf16}
  {x2 : FVec Ideal S1x16384x512 .fp8e4m3} {x3 : FVec Ideal S16x16384 .f32} {x4 : FVec Ideal S1x64x16384 .bf16}

/-- The input blocks of request `b`: its rows of the arrays, the rotary keys transposed, the scales whole. -/
structure Blocks (X : FVec Ideal S16x16x512 .bf16) (Q : FVec Ideal S16x16x64 .bf16) (C : FVec Ideal S16x16384x512 .fp8e4m3)
    (S : FVec Ideal S16x16384 .f32) (K : FVec Ideal S16x16384x64 .bf16) (i : grid0.Coords) (b : Fin 16)
    (x0 : FVec Ideal S1x16x512 .bf16) (x1 : FVec Ideal S1x16x64 .bf16) (x2 : FVec Ideal S1x16384x512 .fp8e4m3)
    (x3 : FVec Ideal S16x16384 .f32) (x4 : FVec Ideal S1x64x16384 .bf16) : Prop where
  point : b.val = (i 0).val
  query : ∀ h d, x0 (ix3 0 h d) = X (ix3 b h d)
  rope : ∀ h e, x1 (ix3 0 h e) = Q (ix3 b h e)
  codes : ∀ z d, x2 (ix3 0 z d) = C (ix3 b z d)
  scales : ∀ z, x3 (ix2 b z) = S (ix2 b z)
  keys : ∀ e z, x4 (ix3 0 e z) = K (ix3 b z e)

/-- Chunk `n` of request `b`'s blocks takes the state one chunk further. -/
theorem Holds.chunk (B : Blocks X Q C S K i b x0 x1 x2 x3 x4) (n : Fin 8) {st : State Ideal}
    (H : Holds (sc X Q C S K b) (wt C S b) n st) (o : ℕ) (ho : o = n.val * 2048) (h2 h3 h4) :
    Holds (sc X Q C S K b) (wt C S b) (n.val + 1) (Value.step x0 x1 (chunkAt (F := Ideal) i x2 x3 x4 o h2 h3 h4) st) := by
  have hz : ∀ k : Fin 2048, (Softmax.tok tokens n k).val = o + k.val := fun k => by rw [ho]; rfl
  refine H.step x0 x1 _ (fun h k => ?_) (fun d k => ?_)
  · rw [scoresOf_apply, sc, byChunk_eq, Spec.score, chunkAt_scales _ _ _ _ _ _ _ _ k b B.point _ (hz k), B.scales]
    simp only [chunkAt_codes _ _ _ _ _ _ _ _ k _ _ (hz k), chunkAt_keys _ _ _ _ _ _ _ _ k _ _ (hz k), B.query, B.rope, B.codes, B.keys]
  · rw [wt, byChunk_eq, chunkAt_scales _ _ _ _ _ _ _ _ k b B.point _ (hz k), B.scales, chunkAt_codes _ _ _ _ _ _ _ _ k _ _ (hz k), B.codes]

/-- **The body's output block is request `b`'s rows of the attention.** -/
theorem body_apply (B : Blocks X Q C S K i b x0 x1 x2 x3 x4) (h : Fin 16) (d : Fin 512) :
    body (F := Ideal) i x0 x1 x2 x3 x4 (ix3 0 h d) = Spec.attend X Q C S K (ix3 b h d) := by
  have H8 := (((((((((holds_start (s := sc X Q C S K b) (w := wt C S b)).chunk B 0 0 rfl
    inb_S1x16384x512_S1x2048x512_0_0_0 (k0_off1_inb i) inb_S1x64x16384_S1x64x2048_0_0_0).chunk B 1 2048 rfl
    inb_S1x16384x512_S1x2048x512_0_2048_0 (k0_off2_inb i) inb_S1x64x16384_S1x64x2048_0_0_2048).chunk B 2 4096 rfl
    inb_S1x16384x512_S1x2048x512_0_4096_0 (k0_off3_inb i) inb_S1x64x16384_S1x64x2048_0_0_4096).chunk B 3 6144 rfl
    inb_S1x16384x512_S1x2048x512_0_6144_0 (k0_off4_inb i) inb_S1x64x16384_S1x64x2048_0_0_6144).chunk B 4 8192 rfl
    inb_S1x16384x512_S1x2048x512_0_8192_0 (k0_off5_inb i) inb_S1x64x16384_S1x64x2048_0_0_8192).chunk B 5 10240 rfl
    inb_S1x16384x512_S1x2048x512_0_10240_0 (k0_off6_inb i) inb_S1x64x16384_S1x64x2048_0_0_10240).chunk B 6 12288 rfl
    inb_S1x16384x512_S1x2048x512_0_12288_0 (k0_off7_inb i) inb_S1x64x16384_S1x64x2048_0_0_12288).chunk B 7 14336 rfl
    inb_S1x16384x512_S1x2048x512_0_14336_0 (k0_off8_inb i) inb_S1x64x16384_S1x64x2048_0_0_14336)
  unfold body
  rw [finish_apply, H8.acc, H8.sum]
  show Ideal.div (Softmax.runSum (sc X Q C S K b h) (wt C S b d) 8) (Softmax.runSum (sc X Q C S K b h) (fun _ _ => 1) 8) = _
  rw [Softmax.runSum_all (sc X Q C S K b h) (wt C S b d) tokens (Spec.score X Q C S K b h) (fun z => S (ix2 b z) * C (ix3 b z d))
      (fun j k => byChunk_eq _ j k) (fun j k => byChunk_eq _ j k),
    Softmax.runSum_all (sc X Q C S K b h) (fun _ _ => 1) tokens (Spec.score X Q C S K b h) (fun _ => 1)
      (fun j k => byChunk_eq _ j k) (fun _ _ => rfl)]
  simp only [mul_one]
  rfl

end Body

end Cert.KernelIdeal.Value
-- ==== Proof.KernelArray.lean ====
/-
  THE KERNEL'S RESULT ARRAY: every grid point's output block is its request's rows of the attention (`body_apply`), the
  blocks tile the array, so the array is the attention of the arguments.
-/
module

public import proofs.«01_k».proof.Proof.Steps
public import Idealize.ShloMosaic.Lib.Pipeline.ValueKit.Point

@[expose] public section

set_option maxRecDepth 16384

noncomputable section

namespace Cert.KernelIdeal.Value

open Cert.KernelIdeal Cert.KernelIdeal.Gen Idealize.ShloMosaic Idealize.ShloMosaic.TcCoe Idealize.SL.Sem

variable (m : (ℓ : Loc nD τ sig) → Buf (Elt Ideal) ℓ)

/-- Every window's block at grid point `t`: request `t`'s, the scales' the whole array. -/
theorem idx : ∀ t : Fin cfg0.N, win0_0.index t = ![t.val, 0, 0] ∧ win0_1.index t = ![t.val, 0, 0] ∧ win0_2.index t = ![t.val, 0, 0]
    ∧ win0_3.index t = ![0, 0] ∧ win0_4.index t = ![t.val, 0, 0] ∧ win0_5.index t = ![t.val, 0, 0]
    ∧ t.val = (grid0.coords t 0).val :=
  (by decide +kernel : ∀ t : Fin grid0.N, _)

/-- The query array the kernel's grid reads. -/
def arrX (c : Dev nD) : FVec Ideal S16x16x512 .bf16 := V m c main_v0
/-- The rotary query array the kernel's grid reads. -/
def arrQ (c : Dev nD) : FVec Ideal S16x16x64 .bf16 := V m c main_v1

/-- The rotary keys the kernel's grid reads are the argument's, transposed. -/
theorem keys_at (c : Dev nD) (b : Fin 16) (e : Fin 64) (z : Fin 16384) :
    (V m c main_v2 : FVec Ideal S16x64x16384 .bf16) (ix3 b e z)
      = (m ((c : Thread nD τ).loc main_arg4) : FVec Ideal S16x16384x64 .bf16) (ix3 b z e) := by
  entry_read
  pointwise

/-- The blocks at grid point `t` are request `t`'s rows of the arguments. -/
theorem blocks_at (c : Dev nD) (t : Fin cfg0.N) :
    Blocks (arrX m c) (arrQ m c) (m ((c : Thread nD τ).loc main_arg2)) (m ((c : Thread nD τ).loc main_arg3))
      (m ((c : Thread nD τ).loc main_arg4)) (grid0.coords t) (⟨t.val, t.isLt⟩ : Fin 16)
      (iblk m c 0 t) (iblk m c 1 t) (iblk m c 2 t) (iblk m c 3 t) (iblk m c 4 t) where
  point := (idx t).2.2.2.2.2.2
  query h d := by unfold arrX; blk_ext [iblk, idx t]
  rope h e := by unfold arrQ; blk_ext [iblk, idx t]
  codes z d := by blk_ext [iblk, V, idx t]
  scales z := by blk_ext [iblk, V, idx t]
  keys e z := Eq.trans (b := (V m c main_v2 : FVec Ideal S16x64x16384 .bf16) (ix3 (⟨t.val, t.isLt⟩ : Fin 16) e z))
    (by blk_ext [iblk, idx t]) (keys_at m c _ e z)

/-- The kernel's result array is the attention of the arguments. -/
theorem array_eq (c : Dev nD) : (dats m 0 c).arrAt 5 cfg0.N
    = Spec.attend (arrX m c) (arrQ m c) (m ((c : Thread nD τ).loc main_arg2)) (m ((c : Thread nD τ).loc main_arg3))
      (m ((c : Thread nD τ).loc main_arg4)) := by
  refine (dats m 0 c).arrAt_eq_of_covers 5 _ (by decide +kernel) fun t hf y => ?_
  blk_simp
  rw [after0_5, outs_eq]
  have hy : y = (ix3 0 (y 1) (y 2) : S1x16x512.Idx) := by
    idx_bounds y
    blk_ext
  have he : ((win0_5.blk t).view.emb y : S16x16x512.Idx) = ix3 (⟨t.val, t.isLt⟩ : Fin 16) (y 1) (y 2) := by
    blk_ext [idx t]
  rw [he]
  exact (congrArg _ hy).trans (body_apply (blocks_at m c t) (y 1) (y 2))

/-- The query array is the first argument, reshaped. -/
theorem arrX_eq (c : Dev nD) : arrX m c = shapeCast S16x16x512 (m ((c : Thread nD τ).loc main_arg0) : FVec Ideal S16x1x8192 .bf16)
    shapeCasts_S16x1x8192_S16x16x512 := by
  unfold arrX
  entry_read
  rfl

/-- The rotary query array is the second argument, reshaped. -/
theorem arrQ_eq (c : Dev nD) : arrQ m c = shapeCast S16x16x64 (m ((c : Thread nD τ).loc main_arg1) : FVec Ideal S16x1x16x64 .bf16)
    shapeCasts_S16x1x16x64_S16x16x64 := by
  unfold arrQ
  entry_read
  rfl

end Cert.KernelIdeal.Value

end
-- ==== Proof.ReferenceArray.lean ====
/-
  THE REFERENCE'S RESULT ARRAY: its one block is the whole array, and its body's value at an index is the attention of the
  arguments there.
-/
module

public import proofs.«01_k».proof.Proof.Spec
public import proofs.«01_k».proof.Proof.Gen.ReferenceIdeal.Value
public import Idealize.ShloMosaic.Lib.Pipeline.ValueKit.Point

@[expose] public section

set_option maxRecDepth 16384

noncomputable section

namespace Cert.ReferenceIdeal.Value

open Cert Cert.ReferenceIdeal Cert.ReferenceIdeal.Gen Idealize.ShloMosaic Idealize.ShloMosaic.TcCoe Idealize.SL.Sem
open scoped BigOperators

variable (m : (ℓ : Loc nD τ sig) → Buf (Elt Ideal) ℓ)

/-- The body's value at an index is the attention there. -/
theorem pay_apply (C : FVec Ideal S16x16384x512 .fp8e4m3) (S : FVec Ideal S16x16384 .f32) (X : FVec Ideal S16x16x512 .bf16)
    (Q : FVec Ideal S16x16x64 .bf16) (K : FVec Ideal S16x16384x64 .bf16) (b : Fin 16) (h : Fin 16) (d : Fin 512) :
    k0_pay1 (F := Ideal) C S X Q K (ix3 b h d) = Spec.attend X Q C S K (ix3 b h d) := by
  pointwise [k0_pay1, dot_S16x16x512_S16x16384x512_S16x16x16384_2_2_1_1_0_0, dot_S16x16x64_S16x16384x64_S16x16x16384_2_2_1_1_0_0,
    dot_S16x16x16384_S16x16384x512_S16x16x512_2_1_1_2_0_0, Spec.ofBits_neg_inf]
  refine Eq.trans (b := Ideal.div (∑ i, Spec.weight X Q C S K b h i * (S (ix2 b i) * C (ix3 b i d)))
    (∑ i, Spec.weight X Q C S K b h i)) ?_ rfl
  unfold Spec.weight Spec.score Spec.smScale
  simp only [mul_assoc]

theorem zero3 : (![0, 0, 0] : Fin 3 → ℕ) = fun _ => 0 := funext fun a => by fin_cases a <;> rfl
theorem zero2 : (![0, 0] : Fin 2 → ℕ) = fun _ => 0 := funext fun a => by fin_cases a <;> rfl

/-- The run's output block is the body of the input blocks. -/
theorem out_eq (x0 : FVec Ideal S16x16x512 .bf16) (x1 : FVec Ideal S16x16x64 .bf16) (x2 : FVec Ideal S16x16384x512 .fp8e4m3)
    (x3 : FVec Ideal S16x16384 .f32) (x4 : FVec Ideal S16x16384x64 .bf16) :
    out0_5 (F := Ideal) x0 x1 x2 x3 x4 = k0_pay1 (F := Ideal) x2 x3 x0 x1 x4 := by
  unfold out0_5
  rw [View.canon_unit_zero zero3, View.ld_unit_zero (S := S16x16384x512) zero3, View.ld_unit_zero (S := S16x16384) zero2, View.ld_unit_zero (S := S16x16x512) zero3,
    View.ld_unit_zero (S := S16x16x64) zero3, View.ld_unit_zero (S := S16x16384x64) zero3]

/-- Every window's block at the one grid point is its whole array. -/
theorem idx : ∀ t : Fin cfg0.N, win0_0.index t = ![0, 0, 0] ∧ win0_1.index t = ![0, 0, 0] ∧ win0_2.index t = ![0, 0, 0]
    ∧ win0_3.index t = ![0, 0] ∧ win0_4.index t = ![0, 0, 0] ∧ win0_5.index t = ![0, 0, 0] :=
  (by decide +kernel : ∀ t : Fin grid0.N, _)

/-- The query array the body reads. -/
def arrX (c : Dev nD) : FVec Ideal S16x16x512 .bf16 := V m c main_v0
/-- The rotary query array the body reads. -/
def arrQ (c : Dev nD) : FVec Ideal S16x16x64 .bf16 := V m c main_v1

theorem iblk0_eq (c : Dev nD) (t : Fin cfg0.N) : iblk m c 0 t = arrX m c := by
  funext j; unfold arrX; blk_ext [iblk, idx t]
theorem iblk1_eq (c : Dev nD) (t : Fin cfg0.N) : iblk m c 1 t = arrQ m c := by
  funext j; unfold arrQ; blk_ext [iblk, idx t]
theorem iblk2_eq (c : Dev nD) (t : Fin cfg0.N) : iblk m c 2 t = m ((c : Thread nD τ).loc main_arg2) := by
  funext j; blk_ext [iblk, V, idx t]
theorem iblk3_eq (c : Dev nD) (t : Fin cfg0.N) : iblk m c 3 t = m ((c : Thread nD τ).loc main_arg3) := by
  funext j; blk_ext [iblk, V, idx t]
theorem iblk4_eq (c : Dev nD) (t : Fin cfg0.N) : iblk m c 4 t = m ((c : Thread nD τ).loc main_arg4) := by
  funext j; blk_ext [iblk, V, idx t]

/-- The reference's result array is the attention of the arguments. -/
theorem array_eq (c : Dev nD) : (dats m 0 c).arrAt 5 cfg0.N
    = Spec.attend (arrX m c) (arrQ m c) (m ((c : Thread nD τ).loc main_arg2)) (m ((c : Thread nD τ).loc main_arg3))
      (m ((c : Thread nD τ).loc main_arg4)) := by
  refine (dats m 0 c).arrAt_eq_of_covers 5 _ (by decide +kernel) fun t hf y => ?_
  blk_simp
  rw [after0_5, out_eq, iblk0_eq, iblk1_eq, iblk2_eq, iblk3_eq, iblk4_eq]
  have hy : y = (ix3 (y 0) (y 1) (y 2) : S16x16x512.Idx) := by blk_ext
  have he : ((win0_5.blk t).view.emb y : S16x16x512.Idx) = ix3 (y 0) (y 1) (y 2) := by blk_ext [idx t]
  rw [he]
  exact (congrArg _ hy).trans (pay_apply _ _ _ _ _ (y 0) (y 1) (y 2))

/-- The query array is the first argument, reshaped. -/
theorem arrX_eq (c : Dev nD) : arrX m c = shapeCast S16x16x512 (m ((c : Thread nD τ).loc main_arg0) : FVec Ideal S16x1x8192 .bf16)
    shapeCasts_S16x1x8192_S16x16x512 := by
  unfold arrX
  entry_read
  rfl

/-- The rotary query array is the second argument, reshaped. -/
theorem arrQ_eq (c : Dev nD) : arrQ m c = shapeCast S16x16x64 (m ((c : Thread nD τ).loc main_arg1) : FVec Ideal S16x1x16x64 .bf16)
    shapeCasts_S16x1x16x64_S16x16x64 := by
  unfold arrQ
  entry_read
  rfl

end Cert.ReferenceIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import proofs.«01_k».proof.Proof.KernelArray
public import proofs.«01_k».proof.Proof.ReferenceArray
public import Idealize.ShloMosaic.Adequacy
public import Idealize.ShloMosaic.Init

@[expose] public section

noncomputable section

namespace Cert.Proof

open Idealize.ShloMosaic Idealize.SL.Sem Cert.Kernel

/-- From the same arguments the kernel's result array and the reference's are the same: the attention of the arguments. -/
theorem arrays_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    (Cert.ReferenceIdeal.Gen.dats m' 0 c).arrAt 5 Cert.ReferenceIdeal.cfg0.N
      = (Cert.KernelIdeal.Gen.dats m 0 c).arrAt 5 Cert.KernelIdeal.cfg0.N := by
  rw [Cert.ReferenceIdeal.Value.array_eq, Cert.ReferenceIdeal.Value.arrX_eq, Cert.ReferenceIdeal.Value.arrQ_eq, h0, h1, h2, h3, h4,
    Cert.KernelIdeal.Value.array_eq, Cert.KernelIdeal.Value.arrX_eq, Cert.KernelIdeal.Value.arrQ_eq]

/-- The claims: the programs run and leave their arguments unchanged, and the kernel's result is the reference's. -/
theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  fun m ρ _ => Cert.ReferenceIdeal.Gen.frame m ρ,
  trivial,
  fun m ρ m' ρ' _ hag => ⟨fun c => (Cert.KernelIdeal.Gen.dats m 0 c).arrAt 5 Cert.KernelIdeal.cfg0.N,
    Cert.KernelIdeal.Value.run_blocks m ρ,
    (θ_run _ _ _).mono (fun _ h c => ⟨(h c).1.trans (arrays_eq m m' c (hag c).1 (hag c).2.1 (hag c).2.2.1 (hag c).2.2.2.1
      (hag c).2.2.2.2), (h c).2⟩) (Cert.ReferenceIdeal.Value.run_blocks m' ρ')⟩⟩

end Cert.Proof

end
